-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x512x320 : Shape := ⟨3, ![8, 512, 320]⟩
abbrev S320x16 : Shape := ⟨2, ![320, 16]⟩
abbrev S8192x16 : Shape := ⟨2, ![8192, 16]⟩
abbrev S8x1x512 : Shape := ⟨3, ![8, 1, 512]⟩
abbrev S1x512x320 : Shape := ⟨3, ![1, 512, 320]⟩
abbrev S1x1x512 : Shape := ⟨3, ![1, 1, 512]⟩
abbrev S512x320 : Shape := ⟨2, ![512, 320]⟩
abbrev S16x512 : Shape := ⟨2, ![16, 512]⟩
abbrev S512 : Shape := ⟨1, ![512]⟩
abbrev S1x512 : Shape := ⟨2, ![1, 512]⟩
abbrev S8192 : Shape := ⟨1, ![8192]⟩
abbrev S8192x1 : Shape := ⟨2, ![8192, 1]⟩
abbrev S1024x16 : Shape := ⟨2, ![1024, 16]⟩
abbrev S1024x1 : Shape := ⟨2, ![1024, 1]⟩
abbrev S1024x512 : Shape := ⟨2, ![1024, 512]⟩
abbrev S8x512 : Shape := ⟨2, ![8, 512]⟩

abbrev nBuf : Space → Nat
  | .hbm => 5
  | .vmem => 6
  | .smem => 0
  | _ => 0

abbrev bufTy : (tb : Table) → Fin (tcTables nBuf tb) → BufTy
  | .hbm, ⟨0, _⟩ => ⟨S8x512x320, .f32⟩
  | .hbm, ⟨1, _⟩ => ⟨S320x16, .f32⟩
  | .hbm, ⟨2, _⟩ => ⟨S8192x16, .f32⟩
  | .hbm, ⟨3, _⟩ => ⟨S8x1x512, .i32⟩
  | .hbm, ⟨4, _⟩ => ⟨S8x512, .i32⟩
  | .local _ .vmem, ⟨0, _⟩ => ⟨S1x512x320, .f32⟩
  | .local _ .vmem, ⟨1, _⟩ => ⟨S1x512x320, .f32⟩
  | .local _ .vmem, ⟨2, _⟩ => ⟨S320x16, .f32⟩
  | .local _ .vmem, ⟨3, _⟩ => ⟨S8192x16, .f32⟩
  | .local _ .vmem, ⟨4, _⟩ => ⟨S1x1x512, .i32⟩
  | .local _ .vmem, ⟨5, _⟩ => ⟨S1x1x512, .i32⟩
  | _, _ => ⟨S8x512x320, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x320 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S320x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S8x512x320 : Shape := ⟨3, ![8, 512, 320]⟩
abbrev S320x16 : Shape := ⟨2, ![320, 16]⟩
abbrev S8192x16 : Shape := ⟨2, ![8192, 16]⟩
abbrev S8x512x16 : Shape := ⟨3, ![8, 512, 16]⟩
abbrev S4096x16 : Shape := ⟨2, ![4096, 16]⟩
abbrev S_ : Shape := ⟨0, ![]⟩
abbrev S4096 : Shape := ⟨1, ![4096]⟩
abbrev S4096x1 : Shape := ⟨2, ![4096, 1]⟩
abbrev S8192 : Shape := ⟨1, ![8192]⟩
abbrev S8192x1 : Shape := ⟨2, ![8192, 1]⟩
abbrev S1x4096 : Shape := ⟨2, ![1, 4096]⟩
abbrev S8192x4096 : Shape := ⟨2, ![8192, 4096]⟩
abbrev S16x4096 : Shape := ⟨2, ![16, 4096]⟩
abbrev S8x512 : Shape := ⟨2, ![8, 512]⟩

abbrev nBuf : Space → Nat
  | .hbm => 53
  | .vmem => 0
  | .smem => 0
  | _ => 0

abbrev bufTy : (tb : Table) → Fin (tcTables nBuf tb) → BufTy
  | .hbm, ⟨0, _⟩ => ⟨S8x512x320, .f32⟩
  | .hbm, ⟨1, _⟩ => ⟨S320x16, .f32⟩
  | .hbm, ⟨2, _⟩ => ⟨S8192x16, .f32⟩
  | .hbm, ⟨3, _⟩ => ⟨S8x512x16, .f32⟩
  | .hbm, ⟨4, _⟩ => ⟨S4096x16, .f32⟩
  | .hbm, ⟨5, _⟩ => ⟨S4096x16, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x16, .f32⟩
  | .hbm, ⟨14, _⟩ => ⟨S4096x16, .f32⟩
  | .hbm, ⟨15, _⟩ => ⟨S8192x16, .f32⟩
  | .hbm, ⟨16, _⟩ => ⟨S_, .f32⟩
  | .hbm, ⟨17, _⟩ => ⟨S8192, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x16, .f32⟩
  | .hbm, ⟨24, _⟩ => ⟨S8192x16, .f32⟩
  | .hbm, ⟨25, _⟩ => ⟨S8192x16, .f32⟩
  | .hbm, ⟨26, _⟩ => ⟨S_, .f32⟩
  | .hbm, ⟨27, _⟩ => ⟨S8192, .f32⟩
  | .hbm, ⟨28, _⟩ => ⟨S8192x1, .f32⟩
  | .hbm, ⟨29, _⟩ => ⟨S4096x16, .f32⟩
  | .hbm, ⟨30, _⟩ => ⟨S_, .f32⟩
  | .hbm, ⟨31, _⟩ => ⟨S4096, .f32⟩
  | .hbm, ⟨32, _⟩ => ⟨S1x4096, .f32⟩
  | .hbm, ⟨33, _⟩ => ⟨S8192x4096, .f32⟩
  | .hbm, ⟨34, _⟩ => ⟨S8192x4096, .f32⟩
  | .hbm, ⟨35, _⟩ => ⟨S8192x4096, .f32⟩
  | .hbm, ⟨36, _⟩ => ⟨S_, .f32⟩
  | .hbm, ⟨37, _⟩ => ⟨S8192x16, .f32⟩
  | .hbm, ⟨38, _⟩ => ⟨S8192x16, .f32⟩
  | .hbm, ⟨39, _⟩ => ⟨S16x4096, .f32⟩
  | .hbm, ⟨40, _⟩ => ⟨S8192x4096, .f32⟩
  | .hbm, ⟨41, _⟩ => ⟨S8192x4096, .f32⟩
  | .hbm, ⟨42, _⟩ => ⟨S_, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .i32⟩
  | .hbm, ⟨48, _⟩ => ⟨S_, .f32⟩
  | .hbm, ⟨49, _⟩ => ⟨S_, .i32⟩
  | .hbm, ⟨50, _⟩ => ⟨S4096, .f32⟩
  | .hbm, ⟨51, _⟩ => ⟨S4096, .i32⟩
  | .hbm, ⟨52, _⟩ => ⟨S8x512, .i32⟩
  | _, _ => ⟨S8x512x320, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_cst : Ref sig .tc := ⟨.hbm, 6, rfl⟩
abbrev main_call0_v1 : Ref sig .tc := ⟨.hbm, 7, rfl⟩
abbrev main_call0_v2 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_call1_v0 : Ref sig .tc := ⟨.hbm, 15, rfl⟩
abbrev main_call1_cst : Ref sig .tc := ⟨.hbm, 16, rfl⟩
abbrev main_call1_v1 : Ref sig .tc := ⟨.hbm, 17, rfl⟩
abbrev main_call1_v2 : Ref sig .tc := ⟨.hbm, 18, rfl⟩
abbrev main_v7 : Ref sig .tc := ⟨.hbm, 19, rfl⟩
abbrev main_cst_0 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_4 : Ref sig .tc := ⟨.hbm, 42, rfl⟩
abbrev main_call2_v0 : Ref sig .tc := ⟨.hbm, 43, rfl⟩
abbrev main_call2_v1 : Ref sig .tc := ⟨.hbm, 44, rfl⟩
abbrev main_v26 : Ref sig .tc := ⟨.hbm, 45, rfl⟩
abbrev main_v27 : Ref sig .tc := ⟨.hbm, 46, rfl⟩
abbrev main_call3_v0 : Ref sig .tc := ⟨.hbm, 47, rfl⟩
abbrev main_call3_cst : Ref sig .tc := ⟨.hbm, 48, rfl⟩
abbrev main_call3_c : Ref sig .tc := ⟨.hbm, 49, rfl⟩
abbrev main_call3_v1_0 : Ref sig .tc := ⟨.hbm, 50, rfl⟩
abbrev main_v28 : Ref sig .tc := ⟨.hbm, 51, rfl⟩
abbrev main_v29 : Ref sig .tc := ⟨.hbm, 52, rfl⟩

abbrev nD : Nat := 1
abbrev τ : Topo := Topo.v7x

variable {F : FTy → Type} [FloatOps F]
-- ==== Proof.RefRun.lean ====
/-
  The reference's run. `reference.py` has no kernel: its @main is a straight line of host operations, among them the
  bodies of the functions it calls (two norms, a clip and an arg-min). The module lists these operations, proves that
  @main is that line, and states what a run leaves in the result buffer, as a composition of named stages.
-/
module

public import Idealize.ShloMosaic.Lib.StableHlo.Run
public import Idealize.ShloMosaic.Lib.Quiescent
public import proofs.«01_k».proof.Defs
public import proofs.«01_k».proof.Proof.Gen.ReferenceIdeal

@[expose] public section

noncomputable section

namespace Cert.Proof.Ref

open Idealize.ShloMosaic Idealize.ShloMosaic.TcCoe Idealize.ShloMosaic.StableHlo Idealize.SL.Sem
open Cert.ReferenceIdeal Cert.ReferenceIdeal.Gen

variable {F : FTy → Type} [FloatOps F]

/-! ## The stages -/

/-- The projected vectors, one row per token: `x` times `p`, its two leading axes merged. -/
def proj (x : FVec F S8x512x320 .f32) (p : FVec F S320x16 .f32) : FVec F S4096x16 .f32 :=
  shapeCast S4096x16 (Host.dotGeneral dot_S8x512x320_S320x16_S8x512x16_2_0_01_1_n_n none x p)
    shapeCasts_S8x512x16_S4096x16

/-- Each row of a 4096×16 array divided by its norm, the norm raised to at least the small constant. -/
def unitRows (y : FVec F S4096x16 .f32) : FVec F S4096x16 .f32 :=
  Host.divf y (broadcastInDim S4096x16 ![0, 1] bcast_S4096x1_S4096x16_0_1
    (maximumf
      (Host.sqrt (broadcastInDim S4096x1 ![0] bcast_S4096_S4096x1_0
        (Host.reduceAdd (mulf y y) (constant S_ .f32 0x00000000#32) reducesTo_S4096x16_S4096_d1 h_S_)))
      (broadcastInDim S4096x1 ![] bcast_S_S4096x1 (constant S_ .f32 0x2B8CBCCC#32))))

/-- The same for the 8192 rows of the codebook. -/
def unitCode (z : FVec F S8192x16 .f32) : FVec F S8192x16 .f32 :=
  Host.divf z (broadcastInDim S8192x16 ![0, 1] bcast_S8192x1_S8192x16_0_1
    (maximumf
      (Host.sqrt (broadcastInDim S8192x1 ![0] bcast_S8192_S8192x1_0
        (Host.reduceAdd (mulf z z) (constant S_ .f32 0x00000000#32) reducesTo_S8192x16_S8192_d1 h_S_)))
      (broadcastInDim S8192x1 ![] bcast_S_S8192x1 (constant S_ .f32 0x2B8CBCCC#32))))

/-- The distances, code by token, of the unit rows `xn` and the unit codes `cn`. -/
def dists (xn : FVec F S4096x16 .f32) (cn : FVec F S8192x16 .f32) : FVec F S8192x4096 .f32 :=
  Host.sqrt (maximumf (broadcastInDim S8192x4096 ![] bcast_S_S8192x4096 (constant S_ .f32 0x00000000#32))
    (subf
      (addf
        (broadcastInDim S8192x4096 ![0, 1] bcast_S8192x1_S8192x4096_0_1
          (broadcastInDim S8192x1 ![0] bcast_S8192_S8192x1_0
            (Host.reduceAdd (mulf cn cn) (constant S_ .f32 0x00000000#32) reducesTo_S8192x16_S8192_d1 h_S_)))
        (broadcastInDim S8192x4096 ![0, 1] bcast_S1x4096_S8192x4096_0_1
          (broadcastInDim S1x4096 ![1] bcast_S4096_S1x4096_1
            (Host.reduceAdd (mulf xn xn) (constant S_ .f32 0x00000000#32) reducesTo_S4096x16_S4096_d1 h_S_))))
      (Host.dotGeneral dot_S8192x16_S16x4096_S8192x4096_1_0_0_1_n_n none
        (mulf (broadcastInDim S8192x16 ![] bcast_S_S8192x16 (constant S_ .f32 0x40000000#32)) cn)
        (transpose S16x4096 [1, 0] xn transposes_S4096x16_S16x4096_1_0))))

/-- The position of the least entry of each column: the index part of the two-operand reduction. -/
def argmin (d : FVec F S8192x4096 .f32) : IVec S4096 32 := fun j =>
  (Host.argReduce reducer_argmin_f32_i32 d (iotaInDim S8192x4096 32 0) (constant S_ .f32 0x7F800000#32)
    (constantI S_ 32 0#32) reducesTo_S8192x4096_S4096_d0 h_S_ j).2

/-- The reference's result from its three arguments. -/
def out (x : FVec F S8x512x320 .f32) (p : FVec F S320x16 .f32) (z : FVec F S8192x16 .f32) : IVec S8x512 32 :=
  shapeCast S8x512 (argmin (dists (unitRows (proj x p)) (unitCode z))) shapeCasts_S4096_S8x512

/-! ## The line of operations -/

/-- Two lines run one after the other leave what the second leaves of the first's contents. -/
theorem after_two (k l : List (HloOp τ sig (Elt F))) (V : Valuation τ sig (Elt F)) :
    after (k ++ l) V = after l (after k V) := by
  induction k generalizing V with
  | nil => rfl
  | cons o k ih => exact ih (o.result V)

/-- The operations up to the unit rows (`main_v6`): the projection, its norm, the division. -/
abbrev opsRows : List (HloOp τ sig (Elt F)) :=
  [ binary main_arg0 main_arg1 main_v0 (fun l r => Host.dotGeneral dot_S8x512x320_S320x16_S8x512x16_2_0_01_1_n_n none l r),
    reshape main_v0 main_v1 rfl shapeCasts_S8x512x16_S4096x16,
    TRef.binary (.of main_v1) (.of main_v1) main_call0.v0 mulf,
    TRef.nullary main_call0.cst (constant S_ .f32 0x00000000#32),
    TRef.binary main_call0.v0 main_call0.cst main_call0.v1 (fun x v => Host.reduceAdd x v reducesTo_S4096x16_S4096_d1 h_S_),
    TRef.unary main_call0.v1 main_call0.v2 (broadcastInDim S4096x1 ![0] bcast_S4096_S4096x1_0),
    TRef.unary main_call0.v2 main_call0.v3 Host.sqrt,
    nullary main_cst (constant S_ .f32 0x2B8CBCCC#32),
    unary main_cst main_v3 (broadcastInDim S4096x1 ![] bcast_S_S4096x1),
    binary main_v2 main_v3 main_v4 maximumf,
    unary main_v4 main_v5 (broadcastInDim S4096x16 ![0, 1] bcast_S4096x1_S4096x16_0_1),
    binary main_v1 main_v5 main_v6 Host.divf ]

/-- The operations that make the unit codes (`main_v11`). -/
abbrev opsCode : List (HloOp τ sig (Elt F)) :=
  [ TRef.binary (.of main_arg2) (.of main_arg2) main_call1.v0 mulf,
    TRef.nullary main_call1.cst (constant S_ .f32 0x00000000#32),
    TRef.binary main_call1.v0 main_call1.cst main_call1.v1 (fun x v => Host.reduceAdd x v reducesTo_S8192x16_S8192_d1 h_S_),
    TRef.unary main_call1.v1 main_call1.v2 (broadcastInDim S8192x1 ![0] bcast_S8192_S8192x1_0),
    TRef.unary main_call1.v2 main_call1.v3 Host.sqrt,
    nullary main_cst_0 (constant S_ .f32 0x2B8CBCCC#32),
    unary main_cst_0 main_v8 (broadcastInDim S8192x1 ![] bcast_S_S8192x1),
    binary main_v7 main_v8 main_v9 maximumf,
    unary main_v9 main_v10 (broadcastInDim S8192x16 ![0, 1] bcast_S8192x1_S8192x16_0_1),
    binary main_arg2 main_v10 main_v11 Host.divf ]

/-- The operations that make the distances (`main_v27`). -/
abbrev opsDist : List (HloOp τ sig (Elt F)) :=
  [ binary main_v11 main_v11 main_v12 mulf,
    nullary main_cst_1 (constant S_ .f32 0x00000000#32),
    binary main_v12 main_cst_1 main_v13 (fun x v => Host.reduceAdd x v reducesTo_S8192x16_S8192_d1 h_S_),
    unary main_v13 main_v14 (broadcastInDim S8192x1 ![0] bcast_S8192_S8192x1_0),
    binary main_v6 main_v6 main_v15 mulf,
    nullary main_cst_2 (constant S_ .f32 0x00000000#32),
    binary main_v15 main_cst_2 main_v16 (fun x v => Host.reduceAdd x v reducesTo_S4096x16_S4096_d1 h_S_),
    unary main_v16 main_v17 (broadcastInDim S1x4096 ![1] bcast_S4096_S1x4096_1),
    unary main_v14 main_v18 (broadcastInDim S8192x4096 ![0, 1] bcast_S8192x1_S8192x4096_0_1),
    unary main_v17 main_v19 (broadcastInDim S8192x4096 ![0, 1] bcast_S1x4096_S8192x4096_0_1),
    binary main_v18 main_v19 main_v20 addf,
    nullary main_cst_3 (constant S_ .f32 0x40000000#32),
    unary main_cst_3 main_v21 (broadcastInDim S8192x16 ![] bcast_S_S8192x16),
    binary main_v21 main_v11 main_v22 mulf,
    unary main_v6 main_v23 (transpose S16x4096 [1, 0] · transposes_S4096x16_S16x4096_1_0),
    binary main_v22 main_v23 main_v24 (fun l r => Host.dotGeneral dot_S8192x16_S16x4096_S8192x4096_1_0_0_1_n_n none l r),
    binary main_v20 main_v24 main_v25 subf,
    nullary main_cst_4 (constant S_ .f32 0x00000000#32),
    TRef.unary (.of main_cst_4) main_call2.v0 id,
    TRef.unary main_call2.v0 main_call2.v1 (broadcastInDim S8192x4096 ![] bcast_S_S8192x4096),
    TRef.binary main_call2.v1 (.of main_v25) main_call2.v2 maximumf,
    unary main_v26 main_v27 Host.sqrt ]

/-- The operations of the arg-min and the last reshape (`main_v29`), over any two-operand reduction `g`. -/
abbrev opsMin (g : FVec F S8192x4096 .f32 → IVec S8192x4096 32 → FVec F S_ .f32 → IVec S_ 32 → S4096.Idx → F .f32 × BitVec 32) : List (HloOp τ sig (Elt F)) :=
  [ TRef.nullary main_call3.v0 (iotaInDim S8192x4096 32 0),
    TRef.nullary main_call3.cst (constant S_ .f32 0x7F800000#32),
    TRef.nullary main_call3.c (constantI S_ 32 0#32),
    TRef.quaternary (.of main_v27) main_call3.v0 main_call3.cst main_call3.c main_call3.v1_0
      (fun x y u v j => (g x y u v j).1),
    TRef.quaternary (.of main_v27) main_call3.v0 main_call3.cst main_call3.c main_call3.v1_1
      (fun x y u v j => (g x y u v j).2),
    reshape main_v28 main_v29 rfl shapeCasts_S4096_S8x512 ]

/-- The two-operand reduction of the arg-min. -/
abbrev minPair (x : FVec F S8192x4096 .f32) (y : IVec S8192x4096 32) (u : FVec F S_ .f32) (v : IVec S_ 32)
    (j : S4096.Idx) : F .f32 × BitVec 32 :=
  Host.argReduce reducer_argmin_f32_i32 x y u v reducesTo_S8192x4096_S4096_d0 h_S_ j

/-- @main's operations in order, the called functions' bodies in place of the calls. -/
abbrev ops : List (HloOp τ sig (Elt F)) := opsRows ++ (opsCode ++ (opsDist ++ opsMin minPair))

set_option maxRecDepth 4096 in
/-- @main is that straight line, once the called functions' bodies stand at their calls. -/
theorem main_eq (c : Dev nD) : main (F := F) c = seq ops := by
  simp only [main, fn_norm.body, fn_norm_0.body, fn_clip.body, fn_argmin.body, ops, opsRows, opsCode, opsDist, opsMin,
    List.cons_append, List.nil_append, seq, bind_assoc, pure_bind]
  rfl

/-- After the first window `main_v6` holds the unit rows of the projection. -/
theorem opsRows_v6 (V : Valuation τ sig (Elt F)) :
    after opsRows V (main_v6 : DevRef τ sig)
      = unitRows (proj (V (main_arg0 : DevRef τ sig)) (V (main_arg1 : DevRef τ sig))) := by
  after_results_simp
  rfl

/-- The first window leaves the codebook as it was. -/
theorem opsRows_arg2 (V : Valuation τ sig (Elt F)) :
    after opsRows V (main_arg2 : DevRef τ sig) = V (main_arg2 : DevRef τ sig) := by
  after_results_simp

/-- After the second window `main_v11` holds the unit codes. -/
theorem opsCode_v11 (V : Valuation τ sig (Elt F)) :
    after opsCode V (main_v11 : DevRef τ sig) = unitCode (V (main_arg2 : DevRef τ sig)) := by
  after_results_simp
  rfl

/-- The second window leaves the unit rows as they were. -/
theorem opsCode_v6 (V : Valuation τ sig (Elt F)) :
    after opsCode V (main_v6 : DevRef τ sig) = V (main_v6 : DevRef τ sig) := by
  after_results_simp

/-- After the third window `main_v27` holds the distances. -/
theorem opsDist_v27 (V : Valuation τ sig (Elt F)) :
    after opsDist V (main_v27 : DevRef τ sig)
      = dists (V (main_v6 : DevRef τ sig)) (V (main_v11 : DevRef τ sig)) := by
  after_results_simp
  rfl

/-- After the last window the result buffer holds the index part of the reduction, reshaped. -/
theorem opsMin_v29 (g : FVec F S8192x4096 .f32 → IVec S8192x4096 32 → FVec F S_ .f32 → IVec S_ 32 → S4096.Idx → F .f32 × BitVec 32) (V : Valuation τ sig (Elt F)) :
    after (opsMin g) V (main_v29 : DevRef τ sig)
      = shapeCast S8x512 (fun j : S4096.Idx => (g (V (main_v27 : DevRef τ sig)) (iotaInDim S8192x4096 32 0)
          (constant S_ .f32 0x7F800000#32) (constantI S_ 32 0#32) j).2) shapeCasts_S4096_S8x512 := by
  after_results_simp
  rfl

/-- After the line the result buffer holds `out` of the three arguments' contents. -/
theorem out_eq (V : Valuation τ sig (Elt F)) :
    after ops V (main_v29 : DevRef τ sig)
      = out (V (main_arg0 : DevRef τ sig)) (V (main_arg1 : DevRef τ sig)) (V (main_arg2 : DevRef τ sig)) := by
  rw [ops, after_two, after_two, after_two, opsMin_v29, opsDist_v27, opsCode_v11, opsCode_v6, opsRows_v6,
    opsRows_arg2]
  rfl

/-- The line leaves the first argument as it was. -/
theorem arg0_eq (V : Valuation τ sig (Elt F)) :
    after ops V (main_arg0 : DevRef τ sig) = V (main_arg0 : DevRef τ sig) := by
  simp only [ops, after_two]
  after_results_simp

/-- The line leaves the second argument as it was. -/
theorem arg1_eq (V : Valuation τ sig (Elt F)) :
    after ops V (main_arg1 : DevRef τ sig) = V (main_arg1 : DevRef τ sig) := by
  simp only [ops, after_two]
  after_results_simp

/-- The line leaves the third argument as it was. -/
theorem arg2_eq (V : Valuation τ sig (Elt F)) :
    after ops V (main_arg2 : DevRef τ sig) = V (main_arg2 : DevRef τ sig) := by
  simp only [ops, after_two]
  after_results_simp

/-- The program scopes no buffer. -/
theorem scopedRefs_eq : (Finset.univ.filter fun b : Ref sig .tc => b.isScoped) = ∅ := by decide
/-- The program scopes no semaphore. -/
theorem scopedSems_eq : (Finset.univ.filter fun sm : SemLoc sig => sm.isScoped .tc) = ∅ := by decide

/-- Every operation of the line touches TensorCore buffers only. -/
theorem ops_sub : (ops : List (HloOp τ sig (Elt F))).Forall fun op => op.bufs ⊆ tcRefs τ sig :=
  ⟨binary_bufs_sub .., reshape_bufs_sub .., binary_bufs_sub .., nullary_bufs_sub .., binary_bufs_sub .., unary_bufs_sub ..,
    unary_bufs_sub .., nullary_bufs_sub .., unary_bufs_sub .., binary_bufs_sub .., unary_bufs_sub .., binary_bufs_sub ..,
    binary_bufs_sub .., nullary_bufs_sub .., binary_bufs_sub .., unary_bufs_sub .., unary_bufs_sub .., nullary_bufs_sub ..,
    unary_bufs_sub .., binary_bufs_sub .., unary_bufs_sub .., binary_bufs_sub .., binary_bufs_sub .., nullary_bufs_sub ..,
    binary_bufs_sub .., unary_bufs_sub .., binary_bufs_sub .., nullary_bufs_sub .., binary_bufs_sub .., unary_bufs_sub ..,
    unary_bufs_sub .., unary_bufs_sub .., binary_bufs_sub .., nullary_bufs_sub .., unary_bufs_sub .., binary_bufs_sub ..,
    unary_bufs_sub .., binary_bufs_sub .., binary_bufs_sub .., nullary_bufs_sub .., unary_bufs_sub .., unary_bufs_sub ..,
    binary_bufs_sub .., unary_bufs_sub .., nullary_bufs_sub .., nullary_bufs_sub .., nullary_bufs_sub .., quaternary_bufs_sub ..,
    quaternary_bufs_sub .., reshape_bufs_sub ..⟩

/-- Every fair run of the reference ends, and each buffer then holds what the line of operations leaves in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- Every fair run of the reference ends with `out` of the arguments in the result buffer and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v29)
          = out (m ((c.tc : Thread nD τ).loc main_arg0)) (m ((c.tc : Thread nD τ).loc main_arg1))
              (m ((c.tc : Thread nD τ).loc main_arg2))
        ∧ r.2.mem ((c.tc : Thread nD τ).loc main_arg0) = m ((c.tc : Thread nD τ).loc main_arg0)
        ∧ r.2.mem ((c.tc : Thread nD τ).loc main_arg1) = m ((c.tc : Thread nD τ).loc main_arg1)
        ∧ r.2.mem ((c.tc : Thread nD τ).loc main_arg2) = m ((c.tc : Thread nD τ).loc main_arg2) :=
  (θ_run defs _ _).mono
    (fun _ h c => ⟨(h c main_v29).trans (out_eq _), (h c main_arg0).trans (arg0_eq _),
      (h c main_arg1).trans (arg1_eq _), (h c main_arg2).trans (arg2_eq _)⟩)
    (run_main m ρ)

/-- The reference's frame: it runs to the end, changes no argument and leaves every semaphore counter at zero. -/
theorem frame : Cert.quiescent_ReferenceIdeal := fun m ρ _ =>
  (θ_run Cert.ReferenceIdeal.defs _ _).mono
    (fun r h => ⟨fun c => (h c).2, Idealize.ShloMosaic.sem_eq_zero_of_no_sems (by decide) r.2⟩)
    (run (F := Ideal) m ρ)

end Cert.Proof.Ref

end
-- ==== Proof.FirstMin.lean ====
/-
  The first position of a least entry, as both programs find it. `Leads D n v i` says that `(v, i)` is the least value
  and its first position among the first `n` entries of `D`, or the pair that both programs start from. The module shows
  that a scan in parts keeps this (the kernel's way), that a fold by the lexicographic minimum reaches it (the
  reference's way), and that over all entries the position is determined.
-/
module

public import Idealize.ShloMosaic.Lib.Pointwise

@[expose] public section

namespace Cert.Proof

open Idealize.ShloMosaic

/-- `v` is at most each of the first `n` entries of `D`, and either `v` is `⊤` and `i` is zero, or `i` is the position
    of an entry equal to `v` that every earlier entry exceeds. -/
def Leads {N : ℕ} (D : Fin N → EReal) (n : ℕ) (v : EReal) (i : BitVec 32) : Prop :=
  (∀ k : Fin N, k.val < n → v ≤ D k) ∧
    ((v = ⊤ ∧ i = 0#32) ∨
      ∃ a : Fin N, a.val < n ∧ i = BitVec.ofNat 32 a.val ∧ D a = v ∧ ∀ k : Fin N, k < a → v < D k)

/-- Before any entry the pair `(⊤, 0)` leads. -/
theorem leads_start {N : ℕ} (D : Fin N → EReal) : Leads D 0 ⊤ 0#32 :=
  ⟨fun k hk => absurd hk (Nat.not_lt_zero _), .inl ⟨rfl, rfl⟩⟩

/-- A position that leads with value `⊤` is zero. -/
theorem leads_top {N : ℕ} {D : Fin N → EReal} {n : ℕ} {v : EReal} {i : BitVec 32} (h : Leads D n v i) (hv : v = ⊤) :
    i = 0#32 := by
  rcases h.2 with ⟨_, hi⟩ | ⟨a, _, hi, _, hlt⟩
  · exact hi
  · have h0 : a.val = 0 := by
      by_contra h0
      have := hlt ⟨0, by omega⟩ (Fin.lt_def.mpr (by simp; omega))
      exact absurd (hv ▸ this) not_top_lt
    rw [hi, h0]

/-- Over all the entries two leading pairs have one position. -/
theorem leads_unique {N : ℕ} {D : Fin N → EReal} {v v' : EReal} {i i' : BitVec 32} (h : Leads D N v i)
    (h' : Leads D N v' i') : i = i' := by
  have key : ∀ {v v' : EReal} {i i' : BitVec 32}, Leads D N v i → Leads D N v' i' → v = ⊤ → i = i' := by
    intro v v' i i' h h' hv
    have hv' : v' = ⊤ := by
      rcases h'.2 with ⟨h1, _⟩ | ⟨a, _, _, ha, _⟩
      · exact h1
      · exact top_le_iff.mp (ha ▸ hv ▸ h.1 a a.isLt)
    rw [leads_top h hv, leads_top h' hv']
  rcases h.2 with ⟨hv, _⟩ | ⟨a, _, hi, ha, hlt⟩
  · exact key h h' hv
  · rcases h'.2 with ⟨hv', _⟩ | ⟨a', _, hi', ha', hlt'⟩
    · exact (key h' h hv').symm
    · rcases lt_trichotomy a a' with hl | hl | hl
      · exact absurd (hlt' a hl) (not_lt.mpr (ha.trans_le ((h.1 a' a'.isLt).trans_eq ha')))
      · rw [hi, hi', hl]
      · exact absurd (hlt a' hl) (not_lt.mpr (ha'.trans_le ((h'.1 a a.isLt).trans_eq ha)))

/-- A minimum fold from `⊤` is at most every value, and is `⊤` or one of them. -/
theorem fold_min_spec {m : ℕ} (g : Fin m → EReal) :
    (∀ r, Finset.univ.fold min ⊤ g ≤ g r) ∧
      (Finset.univ.fold min ⊤ g = ⊤ ∨ ∃ r, g r = Finset.univ.fold min ⊤ g) := by
  have hle : ∀ r, Finset.univ.fold min ⊤ g ≤ g r := fun r =>
    ((Finset.le_fold_min _).mp (le_refl (Finset.univ.fold min ⊤ g))).2 r (Finset.mem_univ r)
  refine ⟨hle, ?_⟩
  rcases (Finset.fold_min_le _).mp (le_refl (Finset.univ.fold min ⊤ g)) with h | ⟨r, _, h⟩
  · exact .inl (top_le_iff.mp h)
  · exact .inr ⟨r, le_antisymm h (hle r)⟩

/-- A fold by the signed minimum of words is at most every value, and is the start or one of them. -/
theorem fold_minsi_spec {m : ℕ} (b : BitVec 32) (g : Fin m → BitVec 32) :
    (∀ r, (Finset.univ.fold IntOp.minsi b g).toInt ≤ (g r).toInt) ∧
      (Finset.univ.fold IntOp.minsi b g = b ∨ ∃ r, g r = Finset.univ.fold IntOp.minsi b g) := by
  have two : ∀ x y : BitVec 32, (IntOp.minsi x y).toInt ≤ x.toInt ∧ (IntOp.minsi x y).toInt ≤ y.toInt ∧
      (IntOp.minsi x y = x ∨ IntOp.minsi x y = y) := by
    intro x y
    unfold IntOp.minsi
    by_cases h : x.slt y
    · rw [if_pos h]
      exact ⟨le_refl _, by rw [BitVec.slt_iff_toInt_lt] at h; omega, .inl rfl⟩
    · rw [if_neg h]
      exact ⟨by rw [BitVec.slt_iff_toInt_lt] at h; omega, le_refl _, .inr rfl⟩
  have all : ∀ s : Finset (Fin m), (∀ r ∈ s, (s.fold IntOp.minsi b g).toInt ≤ (g r).toInt) ∧
      (s.fold IntOp.minsi b g = b ∨ ∃ r, g r = s.fold IntOp.minsi b g) := by
    intro s
    induction s using Finset.cons_induction with
    | empty => exact ⟨fun r hr => absurd hr (Finset.notMem_empty r), .inl rfl⟩
    | cons a s ha ih =>
      rw [Finset.fold_cons]
      obtain ⟨h1, h2, h3⟩ := two (g a) (s.fold IntOp.minsi b g)
      refine ⟨fun r hr => ?_, ?_⟩
      · rcases Finset.mem_cons.mp hr with rfl | hr
        · exact h1
        · exact h2.trans (ih.1 r hr)
      · rcases h3 with h | h
        · exact .inr ⟨a, h.symm⟩
        · rw [h]; exact ih.2
  exact ⟨fun r => (all Finset.univ).1 r (Finset.mem_univ r), (all Finset.univ).2⟩

/-- A small number as a word, read signed. -/
theorem toInt_small {n : ℕ} (h : n ≤ 8192) : (BitVec.ofNat 32 n).toInt = (n : ℤ) := by
  rw [BitVec.toInt_eq_toNat_of_lt (by rw [BitVec.toNat_ofNat]; omega), BitVec.toNat_ofNat]
  congr 1
  omega

/-- One part of the scan: a leading pair of the first `o` entries, updated by the least value `w` of the next `m`
    entries and the first position `c` at which that value is reached, leads the first `o + m` entries. -/
theorem leads_part {N m : ℕ} (D : Fin N → EReal) (o : ℕ) (hN : N ≤ 8192) (ho : o + m ≤ N) (E : Fin m → EReal)
    (hE : ∀ r : Fin m, E r = D ⟨o + r.val, by omega⟩) {v w : EReal} {i c : BitVec 32} (h : Leads D o v i)
    (hw : w = Finset.univ.fold min ⊤ E)
    (hc : c = Finset.univ.fold IntOp.minsi 2147483647#32
      fun r : Fin m => if E r ≤ w then IntOp.addi (BitVec.ofNat 32 r.val) (BitVec.ofNat 32 o) else 8192#32) :
    Leads D (o + m) (min v w) (if w < v then c else i) := by
  obtain ⟨hle, hat⟩ := fold_min_spec E
  rw [← hw] at hle hat
  refine ⟨fun k hk => ?_, ?_⟩
  · by_cases hko : k.val < o
    · exact (min_le_left _ _).trans (h.1 k hko)
    · have he := hE ⟨k.val - o, by omega⟩
      have hk' : (⟨o + (k.val - o), by omega⟩ : Fin N) = k := Fin.ext (by simp; omega)
      exact (min_le_right _ _).trans ((hle ⟨k.val - o, by omega⟩).trans_eq (he.trans (congrArg D hk')))
  · by_cases hwv : w < v
    · rw [if_pos hwv, min_eq_right hwv.le]
      right
      obtain ⟨hcl, hca⟩ := fold_minsi_spec 2147483647#32
        fun r : Fin m => if E r ≤ w then IntOp.addi (BitVec.ofNat 32 r.val) (BitVec.ofNat 32 o) else 8192#32
      rw [← hc] at hcl hca
      have num : ∀ r : Fin m, IntOp.addi (BitVec.ofNat 32 r.val) (BitVec.ofNat 32 o) = BitVec.ofNat 32 (o + r.val) := by
        intro r
        unfold IntOp.addi
        rw [← BitVec.ofNat_add, Nat.add_comm]
      obtain ⟨r0, hr0⟩ : ∃ r, E r = w := hat.resolve_left fun ht => absurd (ht ▸ hwv) not_top_lt
      -- the position found is below 8192, so it is one of the part's own
      have hsmall : c.toInt < 8192 := by
        have := hcl r0
        rw [if_pos hr0.le, num, toInt_small (by omega)] at this
        omega
      obtain ⟨r1, hr1⟩ : ∃ r : Fin m, E r ≤ w ∧ c = BitVec.ofNat 32 (o + r.val) := by
        rcases hca with hb | ⟨r, hr⟩
        · rw [hb] at hsmall
          exact absurd hsmall (by decide)
        · by_cases her : E r ≤ w
          · rw [if_pos her, num] at hr
            exact ⟨r, her, hr.symm⟩
          · rw [if_neg her] at hr
            rw [← hr] at hsmall
            exact absurd hsmall (by decide)
      refine ⟨⟨o + r1.val, by omega⟩, by simp, hr1.2, ?_, fun k hk => ?_⟩
      · rw [← hE r1]; exact le_antisymm hr1.1 (hle r1)
      · by_cases hko : k.val < o
        · exact hwv.trans_le (h.1 k hko)
        · have hk1 : k.val < o + r1.val := hk
          have he := hE ⟨k.val - o, by omega⟩
          have hk' : (⟨o + (k.val - o), by omega⟩ : Fin N) = k := Fin.ext (by simp; omega)
          rw [hk'] at he
          rw [← he]
          by_contra hnot
          have := hcl ⟨k.val - o, by omega⟩
          rw [if_pos (not_lt.mp hnot), num, hr1.2, toInt_small (by omega), toInt_small (by simp; omega)] at this
          simp at this
          omega
    · rw [if_neg hwv, min_eq_left (not_lt.mp hwv)]
      rcases h.2 with h1 | ⟨a, ha, h1⟩
      · exact .inl h1
      · exact .inr ⟨a, by omega, h1⟩

/-- `a` comes no later than `b`: a smaller value, or the same value at a position no larger. -/
def Before (a b : EReal × BitVec 32) : Prop := a.1 < b.1 ∨ (a.1 = b.1 ∧ a.2.toInt ≤ b.2.toInt)

/-- A pair comes no later than itself. -/
theorem Before.refl (a : EReal × BitVec 32) : Before a a := .inr ⟨rfl, le_refl _⟩

/-- Coming no later is transitive. -/
theorem Before.trans {a b c : EReal × BitVec 32} (h : Before a b) (h' : Before b c) : Before a c := by
  rcases h with h | ⟨h, hi⟩ <;> rcases h' with h' | ⟨h', hi'⟩
  · exact .inl (h.trans h')
  · exact .inl (h' ▸ h)
  · exact .inl (h ▸ h')
  · exact .inr ⟨h.trans h', hi.trans hi'⟩

/-- A left fold by an operation that picks the earlier of two pairs ends at a pair of the list (or the start) that comes
    before all of them. -/
theorem foldl_before (f : EReal × BitVec 32 → EReal × BitVec 32 → EReal × BitVec 32)
    (hf : ∀ a b, (f a b = a ∨ f a b = b) ∧ Before (f a b) a ∧ Before (f a b) b) (L : List (EReal × BitVec 32)) :
    ∀ p, L.foldl f p ∈ p :: L ∧ ∀ x ∈ p :: L, Before (L.foldl f p) x := by
  induction L with
  | nil => exact fun p => ⟨by simp, fun x hx => by rw [List.mem_singleton.mp hx]; exact Before.refl p⟩
  | cons a L ih =>
    intro p
    obtain ⟨h1, h2⟩ := ih (f p a)
    obtain ⟨hm, hp, ha⟩ := hf p a
    rw [List.foldl_cons]
    refine ⟨?_, fun x hx => ?_⟩
    · rcases List.mem_cons.mp h1 with h | h
      · rw [h]; rcases hm with h | h <;> rw [h] <;> simp
      · simp [h]
    · have h0 := h2 _ List.mem_cons_self
      rcases List.mem_cons.mp hx with rfl | hx
      · exact h0.trans hp
      · rcases List.mem_cons.mp hx with rfl | hx
        · exact h0.trans ha
        · exact h2 x (List.mem_cons_of_mem _ hx)

/-- Such a fold over the pairs (entry, position) of `D`, from `(⊤, 0)`, leads all the entries. -/
theorem leads_foldl {N : ℕ} (D : Fin N → EReal) (hN : N ≤ 8192)
    (f : EReal × BitVec 32 → EReal × BitVec 32 → EReal × BitVec 32)
    (hf : ∀ a b, (f a b = a ∨ f a b = b) ∧ Before (f a b) a ∧ Before (f a b) b) (L : List (EReal × BitVec 32))
    (hL : ∀ q, q ∈ L ↔ ∃ k : Fin N, q = (D k, BitVec.ofNat 32 k.val)) :
    Leads D N (L.foldl f (⊤, 0#32)).1 (L.foldl f (⊤, 0#32)).2 := by
  obtain ⟨hmem, hbef⟩ := foldl_before f hf L (⊤, 0#32)
  generalize L.foldl f (⊤, 0#32) = q at hmem hbef
  have hk : ∀ k : Fin N, Before q (D k, BitVec.ofNat 32 k.val) := fun k =>
    hbef _ (List.mem_cons_of_mem _ ((hL _).mpr ⟨k, rfl⟩))
  refine ⟨fun k _ => ?_, ?_⟩
  · rcases hk k with h | ⟨h, _⟩
    · exact h.le
    · exact h.le
  · rcases List.mem_cons.mp hmem with h | h
    · exact .inl ⟨by rw [h], by rw [h]⟩
    · obtain ⟨a, rfl⟩ := (hL _).mp h
      refine .inr ⟨a, a.isLt, rfl, rfl, fun k hka => ?_⟩
      rcases hk k with h | ⟨_, h⟩
      · exact h
      · have h1 : k.val < a.val := hka
        simp only [] at h
        rw [toInt_small (by omega), toInt_small (by omega)] at h
        omega

end Cert.Proof
-- ==== Proof.Distance.lean ====
/-
  The distance between a codebook row and a projected token, as one formula on sixteen entries each. Both programs compute
  it: the kernel doubles the inner product, the reference doubles one of its factors.
-/
module

public import Idealize.ShloMosaic.Lib.Pointwise

@[expose] public section

noncomputable section

namespace Cert.Proof

open Idealize.ShloMosaic

/-- The sum of the squares of sixteen entries. -/
def sqSum (v : Fin 16 → EReal) : EReal := ∑ e, v e * v e

/-- Sixteen entries divided by their norm, the norm raised to at least the small constant both programs carry. -/
def unit (v : Fin 16 → EReal) : Fin 16 → EReal := fun e =>
  Ideal.div (v e) (max (Ideal.sqrt (sqSum v)) (Ideal.ofBits .f32 0x2B8CBCCC#32))

/-- The distance between `c` and `u`, from their squared norms and their inner product. -/
def dist (c u : Fin 16 → EReal) : EReal :=
  Ideal.sqrt (max (sqSum c + sqSum u - Ideal.ofBits .f32 0x40000000#32 * ∑ e, c e * u e) 0)

/-- The constant that both programs double with is the number two. -/
theorem ofBits_two : Ideal.ofBits .f32 0x40000000#32 = ((2 : ℝ) : EReal) := by
  simp [Ideal.ofBits, Ideal.ieee]
  rw [← EReal.coe_mul]
  norm_num

/-- The value a minimum starts from is the greatest extended real. -/
theorem ofBits_top : Ideal.ofBits .f32 0x7F800000#32 = (⊤ : EReal) := by
  simp [Ideal.ofBits, Ideal.ieee]

/-- A sum doubled is the sum of the doubled terms, on the extended reals too. -/
theorem two_mul_sum {ι : Type} (s : Finset ι) (f : ι → EReal) :
    Ideal.ofBits .f32 0x40000000#32 * ∑ e ∈ s, f e = ∑ e ∈ s, Ideal.ofBits .f32 0x40000000#32 * f e := by
  rw [ofBits_two]
  induction s using Finset.cons_induction with
  | empty => simp
  | cons a s ha ih =>
    rw [Finset.sum_cons, Finset.sum_cons, ← ih]
    exact EReal.left_distrib_of_nonneg_of_ne_top (by norm_num) (EReal.coe_ne_top _) _ _

/-- The distance as the reference writes it: the clip's operands the other way round, one factor of the inner product
    doubled. -/
theorem dist_eq (c u : Fin 16 → EReal) :
    Ideal.sqrt (max 0 (sqSum c + sqSum u - ∑ e, Ideal.ofBits .f32 0x40000000#32 * c e * u e)) = dist c u := by
  unfold dist
  rw [two_mul_sum, max_comm]
  simp only [mul_assoc]

end Cert.Proof

end
-- ==== Proof.RefValue.lean ====
/-
  The reference's result at an index. Its distances are `dist` of the unit code and the unit token; its arg-min folds the
  lexicographic minimum over a column's entries, so the position it returns leads the whole column.
-/
module

public import Idealize.ShloMosaic.Lib.Pointwise
public import Idealize.ShloMosaic.PureOps.Ideal.Laws
public import proofs.«01_k».proof.Proof.RefRun
public import proofs.«01_k».proof.Proof.FirstMin
public import proofs.«01_k».proof.Proof.Distance

@[expose] public section

set_option maxRecDepth 16384

noncomputable section

namespace Cert.Proof.Ref

open Idealize.ShloMosaic
open Cert.ReferenceIdeal Cert.ReferenceIdeal.Gen

/-- The projection at a token and a coordinate. -/
theorem proj_apply (x : FVec Ideal S8x512x320 .f32) (p : FVec Ideal S320x16 .f32) (t : Fin 4096) (e : Fin 16) :
    proj x p (ix2 t e)
      = ∑ k, x (ix3 ⟨t.val / 512, by omega⟩ ⟨t.val % 512, by omega⟩ k) * p (ix2 k e) := by
  pointwise [proj]

/-- A unit row is `unit` of the row. -/
theorem unitRows_apply (y : FVec Ideal S4096x16 .f32) (t : Fin 4096) (e : Fin 16) :
    unitRows y (ix2 t e) = unit (fun e => y (ix2 t e)) e := by
  pointwise [unitRows, unit, sqSum]

/-- A unit code is `unit` of the codebook's row. -/
theorem unitCode_apply (z : FVec Ideal S8192x16 .f32) (k : Fin 8192) (e : Fin 16) :
    unitCode z (ix2 k e) = unit (fun e => z (ix2 k e)) e := by
  pointwise [unitCode, unit, sqSum]

/-- A distance is `dist` of the code's row and the token's row. -/
theorem dists_apply (y : FVec Ideal S4096x16 .f32) (c : FVec Ideal S8192x16 .f32) (k : Fin 8192) (t : Fin 4096) :
    dists y c (ix2 k t) = dist (fun e => c (ix2 k e)) (fun e => y (ix2 t e)) := by
  rw [← dist_eq]
  pointwise [dists, sqSum]

/-- The last reshape at an index: batch and token merged. -/
theorem merge_apply (a : IVec S4096 32) (b : Fin 8) (l : Fin 512) :
    shapeCast S8x512 a shapeCasts_S4096_S8x512 (ix2 b l) = a (ix1 ⟨b.val * 512 + l.val, by omega⟩) := by
  pointwise

/-- The body of the arg-min picks the earlier of its two pairs. -/
theorem reducer_before (a b : EReal × BitVec 32) :
    (reducer_argmin_f32_i32 (F := Ideal) a b = a ∨ reducer_argmin_f32_i32 (F := Ideal) a b = b) ∧
      Before (reducer_argmin_f32_i32 (F := Ideal) a b) a ∧ Before (reducer_argmin_f32_i32 (F := Ideal) a b) b := by
  obtain ⟨a1, a2⟩ := a
  obtain ⟨b1, b2⟩ := b
  have hlt : (FloatOps.cmpf (F := Ideal) (φ := .f32) .olt a1 b1) = BitVec.ofBool (decide (a1 < b1)) := by
    rw [Ideal.cmpf_def]; simp [Ideal.cmp]
  have hne : (FloatOps.cmpf (F := Ideal) (φ := .f32) .une a1 a1) = 0#1 := by
    rw [Ideal.cmpf_def]; simp [Ideal.cmp]
  have heq : (FloatOps.cmpf (F := Ideal) (φ := .f32) .oeq a1 b1) = BitVec.ofBool (decide (a1 = b1)) := by
    rw [Ideal.cmpf_def]; simp [Ideal.cmp]
  have hsl : IntOp.cmpi .slt a2 b2 = BitVec.ofBool (decide (a2.toInt < b2.toInt)) := rfl
  have value : reducer_argmin_f32_i32 (F := Ideal) (a1, a2) (b1, b2)
      = (if a1 < b1 then a1 else b1, if a1 < b1 ∨ (a1 = b1 ∧ a2.toInt < b2.toInt) then a2 else b2) := by
    unfold reducer_argmin_f32_i32
    simp only [hlt, hne, heq, hsl, Scalar.select, IntOp.ori, IntOp.andi]
    by_cases h1 : a1 < b1 <;> by_cases h2 : a1 = b1 <;> by_cases h3 : a2.toInt < b2.toInt <;> simp [h1, h2, h3]
  rw [value]
  rcases lt_trichotomy a1 b1 with h | h | h
  · rw [if_pos h, if_pos (.inl h)]
    exact ⟨.inl rfl, Before.refl _, .inl h⟩
  · subst h
    rw [if_neg (lt_irrefl a1)]
    by_cases hi : a2.toInt < b2.toInt
    · rw [if_pos (.inr ⟨rfl, hi⟩)]
      exact ⟨.inl rfl, Before.refl _, .inr ⟨rfl, hi.le⟩⟩
    · rw [if_neg (by simp [hi])]
      exact ⟨.inr rfl, .inr ⟨rfl, not_lt.mp hi⟩, Before.refl _⟩
  · rw [if_neg h.not_gt, if_neg (by simp [h.not_gt, h.ne'])]
    exact ⟨.inr rfl, .inl h, Before.refl _⟩

/-- The pairs a column's arg-min folds over are the column's entries with their positions. -/
theorem mem_fiber (d : FVec Ideal S8192x4096 .f32) (t : Fin 4096) (q : EReal × BitVec 32) :
    q ∈ Host.argReduceFiber d (iotaInDim S8192x4096 32 0) reducesTo_S8192x4096_S4096_d0 (ix1 t)
      ↔ ∃ k : Fin 8192, q = (d (ix2 k t), BitVec.ofNat 32 k.val) := by
  have drop : ∀ i : S8192x4096.Idx, reducesTo_S8192x4096_S4096_d0.drop i = ix1 t ↔ i 1 = t := by
    intro i
    have h1 := reducesTo_S8192x4096_S4096_d0.drop_apply_val_of_eq i 0 1
    constructor
    · intro h
      rw [h] at h1
      exact Fin.ext h1.symm
    · intro h
      funext a
      obtain rfl : a = 0 := Subsingleton.elim _ _
      exact Fin.ext (h1.trans (congrArg Fin.val h))
  have two : ∀ i : S8192x4096.Idx, i = ix2 (i 0) (i 1) := fun i => by
    funext a
    fin_cases a <;> rfl
  unfold Host.argReduceFiber
  simp only [List.mem_map, List.mem_filter, List.mem_finRange, true_and, decide_eq_true_eq, drop]
  constructor
  · rintro ⟨n, hn, rfl⟩
    refine ⟨S8192x4096.rowMajor.symm n 0, Prod.ext (congrArg d ?_) rfl⟩
    exact (two _).trans (congrArg (ix2 (S8192x4096.rowMajor.symm n 0 : Fin 8192)) hn)
  · rintro ⟨k, rfl⟩
    exact ⟨S8192x4096.rowMajor (ix2 k t), by rw [Equiv.symm_apply_apply]; rfl, by rw [Equiv.symm_apply_apply]; rfl⟩

/-- The pair a column's arg-min starts from. -/
theorem start_pair : ((constant S_ .f32 0x7F800000#32 : FVec Ideal S_ .f32) (Shape.Idx.first h_S_),
    constantI S_ 32 0#32 (Shape.Idx.first h_S_)) = ((⊤ : EReal), 0#32) := Prod.ext ofBits_top rfl

/-- At the ideal values the index part of an arg-reduction is that of the fold over the pairs, from the starting pair. -/
theorem argReduce_snd {s t u : Shape} {axes : List (Fin s.rank)} {β : Type}
    (f : Ideal .f32 × β → Ideal .f32 × β → Ideal .f32 × β) (x : FVec Ideal s .f32) (y : s.Idx → β)
    (ix : FVec Ideal u .f32) (iy : u.Idx → β) (h : s.ReducesTo axes t) (hu : 0 < u.numel) (j : t.Idx)
    (q : Ideal .f32 × β) (hq : (ix (Shape.Idx.first hu), iy (Shape.Idx.first hu)) = q) :
    (Host.argReduce f x y ix iy h hu j).2 = ((Host.argReduceFiber x y h j).foldl f q).2 := by
  rw [Ideal.argReduce_eq_reduce2, Host.reduce2_eq_foldl_fiber, hq]

/-- The arg-min as a function of the column. -/
theorem argmin_fun (d : FVec Ideal S8192x4096 .f32) : argmin d = fun j =>
    (Host.argReduce (reducer_argmin_f32_i32 (F := Ideal)) d (iotaInDim S8192x4096 32 0)
      (constant S_ .f32 0x7F800000#32) (constantI S_ 32 0#32) reducesTo_S8192x4096_S4096_d0 h_S_ j).2 := rfl

/-- A column's arg-min is the index part of the fold over the column's pairs. -/
theorem argmin_eq (d : FVec Ideal S8192x4096 .f32) (t : Fin 4096) : argmin d (ix1 t)
    = ((Host.argReduceFiber d (iotaInDim S8192x4096 32 0) reducesTo_S8192x4096_S4096_d0
      (ix1 t)).foldl (reducer_argmin_f32_i32 (F := Ideal)) ((⊤ : EReal), 0#32)).2 :=
  (congrFun (argmin_fun d) (ix1 t)).trans (argReduce_snd _ _ _ _ _ _ _ _ _ start_pair)

/-- The arg-min of a column leads the column, with some value. -/
theorem argmin_leads (d : FVec Ideal S8192x4096 .f32) (t : Fin 4096) :
    ∃ v, Leads (fun k : Fin 8192 => d (ix2 k t)) 8192 v (argmin d (ix1 t)) := by
  rw [argmin_eq]
  exact ⟨_, leads_foldl (fun k : Fin 8192 => d (ix2 k t)) (le_refl _) (reducer_argmin_f32_i32 (F := Ideal))
    reducer_before (Host.argReduceFiber d (iotaInDim S8192x4096 32 0) reducesTo_S8192x4096_S4096_d0 (ix1 t))
    (mem_fiber d t)⟩

/-- The code's distances to token `l` of batch `b`, from the arguments. -/
def D (x : FVec Ideal S8x512x320 .f32) (p : FVec Ideal S320x16 .f32) (z : FVec Ideal S8192x16 .f32) (b : Fin 8)
    (l : Fin 512) (k : Fin 8192) : EReal :=
  dist (unit fun e => z (ix2 k e)) (unit fun e => ∑ c, x (ix3 b l c) * p (ix2 c e))

/-- The reference's result at batch `b` and token `l` leads that token's distances. -/
theorem out_leads (x : FVec Ideal S8x512x320 .f32) (p : FVec Ideal S320x16 .f32) (z : FVec Ideal S8192x16 .f32)
    (b : Fin 8) (l : Fin 512) : ∃ v, Leads (D x p z b l) 8192 v (out x p z (ix2 b l)) := by
  unfold out
  rw [merge_apply]
  obtain ⟨v, h⟩ := argmin_leads (dists (unitRows (proj x p)) (unitCode z)) ⟨b.val * 512 + l.val, by omega⟩
  refine ⟨v, ?_⟩
  have hb : (⟨(b.val * 512 + l.val) / 512, by omega⟩ : Fin 8) = b := Fin.ext (by simp; omega)
  have hl : (⟨(b.val * 512 + l.val) % 512, by omega⟩ : Fin 512) = l := Fin.ext (by simp)
  have hD : (fun k : Fin 8192 => dists (unitRows (proj x p)) (unitCode z) (ix2 k ⟨b.val * 512 + l.val, by omega⟩))
      = D x p z b l := by
    funext k
    simp only [dists_apply, unitRows_apply, unitCode_apply, proj_apply, hb, hl]
    rfl
  rw [hD] at h
  exact h

end Cert.Proof.Ref

end
-- ==== Proof.BlockSteps.lean ====
/-
  What one grid point of the kernel computes, as eight equal steps. The kernel cuts the codebook in eight parts of 1024
  codes. Each part's distances are computed from the unit tokens, their squared norms, the unit codes and their squared
  norms; the least distance of the part and its first position then update a running pair. The printed text spells the
  eight parts out one by one; here one step is defined and the printed text is shown to be eight uses of it.
-/
module

public import Idealize.ShloMosaic.Lib.Pointwise
public import proofs.«01_k».proof.Proof.Gen.KernelIdeal
public import proofs.«01_k».proof.Proof.Gen.KernelIdeal.Skeleton
public import proofs.«01_k».proof.Proof.Gen.KernelIdeal.Frame

@[expose] public section

noncomputable section

namespace Cert.Proof.Block

open Idealize.ShloMosaic
open Cert.KernelIdeal Cert.KernelIdeal.Gen

variable {F : FTy → Type} [FloatOps F]

/-- The distances of the 1024 codes from code `o` on to the block's 512 tokens: `xt` the unit tokens as columns, `xs`
    their squared norms, `cn` the unit codes as rows, `cs` their squared norms. -/
def partDist (o : ℕ) (h : S8192x16.Slices ![o, 0] S1024x16) (h' : S8192x1.Slices ![o, 0] S1024x1)
    (xt : FVec F S16x512 .f32) (xs : FVec F S1x512 .f32) (cn : FVec F S8192x16 .f32) (cs : FVec F S8192x1 .f32) :
    FVec F S1024x512 .f32 :=
  sqrt (maximumf
    (subf
      (addf (broadcastTo S1024x512 (extractStridedSlice S1024x1 ![o, 0] cs h') broadcasts_S1024x1_S1024x512)
        (broadcastTo S1024x512 xs broadcasts_S1x512_S1024x512))
      (mulf (broadcast S1024x512 (Scalar.ofBits .f32 0x40000000#32))
        (matmul dot_S1024x16_S16x512_S1024x512_1_0_0_1_n_n none (extractStridedSlice S1024x16 ![o, 0] cn h) xt
          (constant S1024x512 .f32 0x00000000#32))))
    (broadcast S1024x512 (Scalar.ofBits .f32 0x00000000#32)))

/-- Per token, the least of a part's distances. -/
def partMin (d : FVec F S1024x512 .f32) : FVec F S1x512 .f32 :=
  shapeCast S1x512 (multiReduction .minimumf [0] S512 d 0x7F800000#32 reduces_S1024x512_S512 (.inl rfl) rfl)
    shapeCasts_S512_S1x512

/-- Per token, the first code of the part at that least distance; the part's codes are numbered from `b` on. -/
def partArg (b : BitVec 32) (d : FVec F S1024x512 .f32) : IVec S1x512 32 :=
  shapeCast S1x512
    (multiReductionI .minsi [0] S512
      (select (cmpf .ole d (broadcastTo S1024x512 (partMin d) broadcasts_S1x512_S1024x512))
        (addi (iota .tc S1024x512 32 [0] iota_S1024x512_d0_w32) (broadcast S1024x512 b))
        (broadcast S1024x512 8192#32))
      2147483647#32 reduces_S1024x512_S512 rfl)
    shapeCasts_S512_S1x512

/-- One step: a part's least distance and position update the running pair, when the distance is smaller. -/
def step (b : BitVec 32) (d : FVec F S1024x512 .f32) (s : FVec F S1x512 .f32 × IVec S1x512 32) :
    FVec F S1x512 .f32 × IVec S1x512 32 :=
  (minimumf s.1 (partMin d), select (cmpf .olt (partMin d) s.1) (partArg b d) s.2)

/-- The running pair before the first part: no distance yet, position zero. -/
def start : FVec F S1x512 .f32 × IVec S1x512 32 :=
  (broadcast S1x512 (Scalar.ofBits .f32 0x7F800000#32), broadcast S1x512 0#32)

/-- The running pair after all eight parts. -/
def all (xt : FVec F S16x512 .f32) (xs : FVec F S1x512 .f32) (cn : FVec F S8192x16 .f32) (cs : FVec F S8192x1 .f32) :
    FVec F S1x512 .f32 × IVec S1x512 32 :=
  step 7168#32 (partDist 7168 slices_S8192x16_o7168_0_S1024x16 slices_S8192x1_o7168_0_S1024x1 xt xs cn cs)
  (step 6144#32 (partDist 6144 slices_S8192x16_o6144_0_S1024x16 slices_S8192x1_o6144_0_S1024x1 xt xs cn cs)
  (step 5120#32 (partDist 5120 slices_S8192x16_o5120_0_S1024x16 slices_S8192x1_o5120_0_S1024x1 xt xs cn cs)
  (step 4096#32 (partDist 4096 slices_S8192x16_o4096_0_S1024x16 slices_S8192x1_o4096_0_S1024x1 xt xs cn cs)
  (step 3072#32 (partDist 3072 slices_S8192x16_o3072_0_S1024x16 slices_S8192x1_o3072_0_S1024x1 xt xs cn cs)
  (step 2048#32 (partDist 2048 slices_S8192x16_o2048_0_S1024x16 slices_S8192x1_o2048_0_S1024x1 xt xs cn cs)
  (step 1024#32 (partDist 1024 slices_S8192x16_o1024_0_S1024x16 slices_S8192x1_o1024_0_S1024x1 xt xs cn cs)
  (step 0#32 (partDist 0 slices_S8192x16_o0_0_S1024x16 slices_S8192x1_o0_0_S1024x1 xt xs cn cs) start)))))))

/-- What the body leaves in the output window: the position part of the pair after the eight steps. -/
theorem out_eq (x : Vec F S1x512x320 .f32) (p : Vec F S320x16 .f32) (z : Vec F S8192x16 .f32) :
    out0_3 x p z = shapeCast S1x1x512 (all (k0_pay2 x p) (k0_pay3 x p) (k0_pay4 z) (k0_pay5 z)).2
      shapeCasts_S1x512_S1x1x512 := by
  unfold_out out0_3
  rw [View.canon_unit_zero (funext fun a => by fin_cases a <;> rfl)]
  rw [View.ld_unit_zero (funext fun a => by fin_cases a <;> rfl),
    View.ld_unit_zero (funext fun a => by fin_cases a <;> rfl),
    View.ld_unit_zero (funext fun a => by fin_cases a <;> rfl)]
  rfl

end Cert.Proof.Block

end
-- ==== Proof.BlockValue.lean ====
/-
  What one grid point of the kernel computes, at an index. Each step keeps the running pair leading the distances seen so
  far, so after the eight steps the position written leads all 8192 distances of its token.
-/
module

public import proofs.«01_k».proof.Proof.BlockSteps
public import proofs.«01_k».proof.Proof.FirstMin
public import proofs.«01_k».proof.Proof.Distance

@[expose] public section

set_option maxRecDepth 16384

noncomputable section

namespace Cert.Proof.Block

open Idealize.ShloMosaic
open Cert.KernelIdeal Cert.KernelIdeal.Gen

/-- The unit tokens, as columns: `unit` of the token's projection. -/
theorem token_apply (x : Vec Ideal S1x512x320 .f32) (p : Vec Ideal S320x16 .f32) (e : Fin 16) (l : Fin 512) :
    k0_pay2 (F := Ideal) x p (ix2 e l) = unit (fun e => ∑ c, p (ix2 c e) * x (ix3 0 l c)) e := by
  pointwise [k0_pay2, unit, sqSum]

/-- The unit tokens' squared norms. -/
theorem tokenSq_apply (x : Vec Ideal S1x512x320 .f32) (p : Vec Ideal S320x16 .f32) (l : Fin 512) :
    k0_pay3 (F := Ideal) x p (ix2 0 l) = sqSum fun e => k0_pay2 (F := Ideal) x p (ix2 e l) := by
  pointwise [k0_pay3, sqSum]

/-- The unit codes, as rows: `unit` of the codebook's row. -/
theorem code_apply (z : Vec Ideal S8192x16 .f32) (k : Fin 8192) (e : Fin 16) :
    k0_pay4 (F := Ideal) z (ix2 k e) = unit (fun e => z (ix2 k e)) e := by
  pointwise [k0_pay4, unit, sqSum]

/-- The unit codes' squared norms. -/
theorem codeSq_apply (z : Vec Ideal S8192x16 .f32) (k : Fin 8192) :
    k0_pay5 (F := Ideal) z (ix2 k 0) = sqSum fun e => k0_pay4 (F := Ideal) z (ix2 k e) := by
  pointwise [k0_pay5, sqSum]

/-- A part's distance at its code `r` and token `l`, in the columns and rows it is computed from. -/
theorem partDist_apply (o : ℕ) (ho : o + 1024 ≤ 8192) (h : S8192x16.Slices ![o, 0] S1024x16)
    (h' : S8192x1.Slices ![o, 0] S1024x1) (xt : FVec Ideal S16x512 .f32) (xs : FVec Ideal S1x512 .f32)
    (cn : FVec Ideal S8192x16 .f32) (cs : FVec Ideal S8192x1 .f32) (r : Fin 1024) (l : Fin 512) :
    partDist o h h' xt xs cn cs (ix2 r l)
      = Ideal.sqrt (max (cs (ix2 ⟨o + r.val, by omega⟩ 0) + xs (ix2 0 l)
          - Ideal.ofBits .f32 0x40000000#32 * ∑ e, cn (ix2 ⟨o + r.val, by omega⟩ e) * xt (ix2 e l)) 0) := by
  pointwise [partDist]

/-- A part's least distance at token `l` is a fold of the minimum over the part's codes. -/
theorem partMin_apply (d : FVec Ideal S1024x512 .f32) (l : Fin 512) :
    partMin d (ix2 0 l) = Finset.univ.fold min ⊤ fun r : Fin 1024 => d (ix2 r l) := by
  rw [← ofBits_top]
  pointwise [partMin]

/-- A part's position at token `l` is a fold of the signed minimum over the positions at the least distance. -/
theorem partArg_apply (b : BitVec 32) (d : FVec Ideal S1024x512 .f32) (l : Fin 512) :
    partArg b d (ix2 0 l) = Finset.univ.fold IntOp.minsi 2147483647#32 fun r : Fin 1024 =>
      if d (ix2 r l) ≤ partMin d (ix2 0 l) then IntOp.addi (BitVec.ofNat 32 r.val) b else 8192#32 := by
  pointwise [partArg]

/-- The distance a step leaves at token `l`. -/
theorem step_fst (b : BitVec 32) (d : FVec Ideal S1024x512 .f32) (s : FVec Ideal S1x512 .f32 × IVec S1x512 32)
    (l : Fin 512) : (step b d s).1 (ix2 0 l) = min (s.1 (ix2 0 l)) (partMin d (ix2 0 l)) := by
  pointwise [step]

/-- The position a step leaves at token `l`. -/
theorem step_snd (b : BitVec 32) (d : FVec Ideal S1024x512 .f32) (s : FVec Ideal S1x512 .f32 × IVec S1x512 32)
    (l : Fin 512) : (step b d s).2 (ix2 0 l)
      = if partMin d (ix2 0 l) < s.1 (ix2 0 l) then partArg b d (ix2 0 l) else s.2 (ix2 0 l) := by
  pointwise [step]

/-- The distances of all codes to token `l` of the block, from the block's three inputs. -/
def D (x : Vec Ideal S1x512x320 .f32) (p : Vec Ideal S320x16 .f32) (z : Vec Ideal S8192x16 .f32) (l : Fin 512)
    (k : Fin 8192) : EReal :=
  dist (unit fun e => z (ix2 k e)) (unit fun e => ∑ c, p (ix2 c e) * x (ix3 0 l c))

/-- One step on the part from code `o` on: if the running pair leads the first `o` distances, the updated pair leads the
    first `o + 1024`. -/
theorem step_leads (x : Vec Ideal S1x512x320 .f32) (p : Vec Ideal S320x16 .f32) (z : Vec Ideal S8192x16 .f32)
    (l : Fin 512) (o : ℕ) (ho : o + 1024 ≤ 8192) (h : S8192x16.Slices ![o, 0] S1024x16)
    (h' : S8192x1.Slices ![o, 0] S1024x1) (s : FVec Ideal S1x512 .f32 × IVec S1x512 32)
    (hs : Leads (D x p z l) o (s.1 (ix2 0 l)) (s.2 (ix2 0 l))) (n : ℕ) (hn : n = o + 1024) :
    Leads (D x p z l) n
      ((step (BitVec.ofNat 32 o) (partDist o h h' (k0_pay2 x p) (k0_pay3 x p) (k0_pay4 z) (k0_pay5 z)) s).1 (ix2 0 l))
      ((step (BitVec.ofNat 32 o) (partDist o h h' (k0_pay2 x p) (k0_pay3 x p) (k0_pay4 z) (k0_pay5 z)) s).2
        (ix2 0 l)) := by
  subst hn
  rw [step_fst, step_snd]
  refine leads_part (D x p z l) o (le_refl _) ho
    (fun r => partDist o h h' (k0_pay2 x p) (k0_pay3 x p) (k0_pay4 z) (k0_pay5 z) (ix2 r l)) (fun r => ?_) hs
    (partMin_apply _ l) (partArg_apply _ _ l)
  rw [partDist_apply o ho, codeSq_apply, tokenSq_apply]
  simp only [token_apply, code_apply]
  rfl

/-- The position the eight steps leave at token `l` leads all the distances. -/
theorem all_leads (x : Vec Ideal S1x512x320 .f32) (p : Vec Ideal S320x16 .f32) (z : Vec Ideal S8192x16 .f32)
    (l : Fin 512) : ∃ v, Leads (D x p z l) 8192 v
      ((all (k0_pay2 (F := Ideal) x p) (k0_pay3 x p) (k0_pay4 z) (k0_pay5 z)).2 (ix2 0 l)) := by
  have h0 : Leads (D x p z l) 0 ((start (F := Ideal)).1 (ix2 0 l)) ((start (F := Ideal)).2 (ix2 0 l)) := by
    have e : (start (F := Ideal)).1 (ix2 0 l) = (⊤ : EReal) := ofBits_top
    rw [e]
    exact leads_start _
  have h1 := step_leads x p z l 0 (by omega) slices_S8192x16_o0_0_S1024x16 slices_S8192x1_o0_0_S1024x1 _ h0 1024 rfl
  have h2 := step_leads x p z l 1024 (by omega) slices_S8192x16_o1024_0_S1024x16 slices_S8192x1_o1024_0_S1024x1 _ h1 2048 rfl
  have h3 := step_leads x p z l 2048 (by omega) slices_S8192x16_o2048_0_S1024x16 slices_S8192x1_o2048_0_S1024x1 _ h2 3072 rfl
  have h4 := step_leads x p z l 3072 (by omega) slices_S8192x16_o3072_0_S1024x16 slices_S8192x1_o3072_0_S1024x1 _ h3 4096 rfl
  have h5 := step_leads x p z l 4096 (by omega) slices_S8192x16_o4096_0_S1024x16 slices_S8192x1_o4096_0_S1024x1 _ h4 5120 rfl
  have h6 := step_leads x p z l 5120 (by omega) slices_S8192x16_o5120_0_S1024x16 slices_S8192x1_o5120_0_S1024x1 _ h5 6144 rfl
  have h7 := step_leads x p z l 6144 (by omega) slices_S8192x16_o6144_0_S1024x16 slices_S8192x1_o6144_0_S1024x1 _ h6 7168 rfl
  have h8 := step_leads x p z l 7168 (by omega) slices_S8192x16_o7168_0_S1024x16 slices_S8192x1_o7168_0_S1024x1 _ h7 8192 rfl
  exact ⟨_, h8⟩

/-- The last reshape at an index. -/
theorem lift_apply (s : IVec S1x512 32) (l : Fin 512) :
    shapeCast S1x1x512 s shapeCasts_S1x512_S1x1x512 (ix3 0 0 l) = s (ix2 0 l) := by
  pointwise

/-- What the body writes at token `l` of its output window leads the token's distances. -/
theorem out_leads (x : Vec Ideal S1x512x320 .f32) (p : Vec Ideal S320x16 .f32) (z : Vec Ideal S8192x16 .f32)
    (l : Fin 512) : ∃ v, Leads (D x p z l) 8192 v (out0_3 (F := Ideal) x p z (ix3 0 0 l)) := by
  rw [out_eq, lift_apply]
  exact all_leads x p z l

end Cert.Proof.Block

end
-- ==== Proof.KernelRun.lean ====
/-
  The kernel's run. Grid point `b` reads batch `b` of `x` and the whole of the projection and of the codebook, and writes
  row `b` of an array of shape (8, 1, 512); the host then drops that array's unit axis. The module states the result buffer
  after the run, entry by entry, from the three arguments.
-/
module

public import Idealize.ShloMosaic.Lib.Pipeline.Value
public import Idealize.ShloMosaic.Lib.StableHlo.Run
public import Idealize.ShloMosaic.Lib.Pointwise
public import proofs.«01_k».proof.Defs
public import proofs.«01_k».proof.Proof.Gen.KernelIdeal
public import proofs.«01_k».proof.Proof.Gen.KernelIdeal.Frame

@[expose] public section

set_option maxRecDepth 16384

noncomputable section

namespace Cert.Proof.KernelRun

open Idealize.ShloMosaic Idealize.ShloMosaic.TcCoe Idealize.ShloMosaic.StableHlo Idealize.SL.Sem
open Idealize.ShloMosaic.Pipeline (Dat)
open Cert.KernelIdeal Cert.KernelIdeal.Gen

variable {F : FTy → Type} [FloatOps F]
variable (m : (ℓ : Loc nD τ sig) → Buf (Elt F) ℓ) (ρ : Dev nD → PrngReg)

/-- The grid point of batch `b`. -/
def point (b : Fin 8) : Fin cfg0.N := ⟨b.val, b.isLt.trans_eq N_0.symm⟩

/-- Where the windows' blocks lie: the first and the last move along the leading axis with the point, the other two stay. -/
theorem starts (t : Fin cfg0.N) :
    (win0_0.index t 0 = t.val ∧ win0_0.index t 1 = 0 ∧ win0_0.index t 2 = 0)
      ∧ (win0_1.index t 0 = 0 ∧ win0_1.index t 1 = 0) ∧ (win0_2.index t 0 = 0 ∧ win0_2.index t 1 = 0)
      ∧ (win0_3.index t 0 = t.val ∧ win0_3.index t 1 = 0 ∧ win0_3.index t 2 = 0) := by
  rcases fin_N0 t with rfl | rfl | rfl | rfl | rfl | rfl | rfl | rfl <;> decide +kernel

/-- Point `b`'s block of `x` is batch `b`. -/
theorem block_x (c : Dev nD) (b : Fin 8) (l : Fin 512) (k : Fin 320) :
    iblk m c 0 (point b) (ix3 0 l k : S1x512x320.Idx) = m ((c : Thread nD τ).loc main_arg0) (ix3 b l k : S8x512x320.Idx) := by
  obtain ⟨⟨h0, h1, h2⟩, -⟩ := starts (point b)
  show m ((c : Thread nD τ).loc main_arg0) ((win0_0.blk (point b)).view.emb (ix3 0 l k : S1x512x320.Idx)) = _
  refine congrArg _ (funext fun a => Fin.ext ?_)
  match a with
  | ⟨0, _⟩ => show win0_0.index (point b) 0 * 1 + 1 * 0 = b.val; rw [h0]; simp [point]
  | ⟨1, _⟩ => show win0_0.index (point b) 1 * 512 + 1 * l.val = l.val; rw [h1]; omega
  | ⟨2, _⟩ => show win0_0.index (point b) 2 * 320 + 1 * k.val = k.val; rw [h2]; omega

/-- Each point's block of the projection is the whole of it. -/
theorem block_p (c : Dev nD) (t : Fin cfg0.N) (k : Fin 320) (e : Fin 16) :
    iblk m c 1 t (ix2 k e : S320x16.Idx) = m ((c : Thread nD τ).loc main_arg1) (ix2 k e : S320x16.Idx) := by
  obtain ⟨-, ⟨h0, h1⟩, -⟩ := starts t
  show m ((c : Thread nD τ).loc main_arg1) ((win0_1.blk t).view.emb (ix2 k e : S320x16.Idx)) = _
  refine congrArg _ (funext fun a => Fin.ext ?_)
  match a with
  | ⟨0, _⟩ => show win0_1.index t 0 * 320 + 1 * k.val = k.val; rw [h0]; omega
  | ⟨1, _⟩ => show win0_1.index t 1 * 16 + 1 * e.val = e.val; rw [h1]; omega

/-- Each point's block of the codebook is the whole of it. -/
theorem block_z (c : Dev nD) (t : Fin cfg0.N) (k : Fin 8192) (e : Fin 16) :
    iblk m c 2 t (ix2 k e : S8192x16.Idx) = m ((c : Thread nD τ).loc main_arg2) (ix2 k e : S8192x16.Idx) := by
  obtain ⟨-, -, ⟨h0, h1⟩, -⟩ := starts t
  show m ((c : Thread nD τ).loc main_arg2) ((win0_2.blk t).view.emb (ix2 k e : S8192x16.Idx)) = _
  refine congrArg _ (funext fun a => Fin.ext ?_)
  match a with
  | ⟨0, _⟩ => show win0_2.index t 0 * 8192 + 1 * k.val = k.val; rw [h0]; omega
  | ⟨1, _⟩ => show win0_2.index t 1 * 16 + 1 * e.val = e.val; rw [h1]; omega

/-- What point `b` writes at token `l`. -/
def entry (c : Dev nD) (b : Fin 8) (l : Fin 512) : BitVec 32 :=
  out0_3 (iblk m c 0 (point b)) (iblk m c 1 (point b)) (iblk m c 2 (point b)) (ix3 0 0 l)

/-- The pipeline's result array, row `b` written by point `b`. -/
abbrev rows (c : Dev nD) : Buf (Elt F) ((c : Thread nD τ).loc main_v0) := fun i : S8x1x512.Idx => entry m c (i 0) (i 2)

/-- Point `t`'s block of an array given row by row, at an index of the block: row `t` at the block's last coordinate. -/
theorem read_rows (c : Dev nD) (g : Fin 8 → Fin 512 → BitVec 32) (t : Fin cfg0.N) (y : S1x1x512.Idx) :
    (win0_3.blk t).view.read (Elt F)
        ((fun i : S8x1x512.Idx => g (i 0) (i 2)) : Buf (Elt F) ((c : Thread nD τ).loc main_v0)) y
      = g ⟨t.val, t.isLt.trans_eq N_0⟩ (y 2) := by
  obtain ⟨-, -, -, h0, h1, h2⟩ := starts t
  have y0 : (y 0 : Nat) < 1 := (y 0).isLt
  have e0 : (win0_3.blk t).view.emb y 0 = (⟨t.val, t.isLt.trans_eq N_0⟩ : Fin 8) := by
    refine Fin.ext ?_
    show win0_3.index t 0 * 1 + 1 * (y 0 : Nat) = t.val
    rw [h0]; omega
  have e2 : (win0_3.blk t).view.emb y 2 = (y 2 : Fin 512) := by
    refine Fin.ext ?_
    show win0_3.index t 2 * 512 + 1 * (y 2 : Nat) = (y 2 : Nat)
    rw [h2]; omega
  exact congrArg₂ g e0 e2

/-- What point `t` writes back is its block of that array. -/
theorem flushed_eq (c : Dev nD) (t : Fin cfg0.N) :
    (dats m 0 c).flushed 3 t = (win0_3.blk t).view.read (Elt F) (rows m c) := by
  show (cfg0.win 3).cut (grid0.coords t) ((dats m 0 c).after 3 t) = _
  rw [after0_3]
  funext y
  refine Eq.trans ?_ (read_rows c (entry m c) t y).symm
  have y0 : (y 0 : Nat) < 1 := (y 0).isLt
  have y1 : (y 1 : Nat) < 1 := (y 1).isLt
  have ey : y = (ix3 0 0 (y 2 : Fin 512) : S1x1x512.Idx) := by
    refine funext fun a => Fin.ext ?_
    match a with
    | ⟨0, _⟩ => show (y 0 : Nat) = 0; omega
    | ⟨1, _⟩ => show (y 1 : Nat) = 0; omega
    | ⟨2, _⟩ => rfl
  have ht : point ⟨t.val, t.isLt.trans_eq N_0⟩ = t := rfl
  unfold entry
  rw [ht]
  exact congrArg (out0_3 (iblk m c 0 t) (iblk m c 1 t) (iblk m c 2 t)) ey

/-- The points' blocks cover the array. -/
theorem cover (i : S8x1x512.Idx) :
    ∃ t : Fin cfg0.N, (cfg0.win 3).flush t = true ∧ i ∈ ((cfg0.win 3).blk t).view.set := by
  have i0 : (i 0 : Nat) < 8 := (i 0).isLt
  have i1 : (i 1 : Nat) < 1 := (i 1).isLt
  have i2 : (i 2 : Nat) < 512 := (i 2).isLt
  refine ⟨point (i 0), flush0_3 _, ?_⟩
  obtain ⟨-, -, -, h0, h1, h2⟩ := starts (point (i 0))
  show i ∈ ((View.whole main_v0).slice (win0_3.rect (point (i 0)))).set
  rw [View.set_slice_whole, Rect.mem_set_unit]
  intro a
  match a with
  | ⟨0, _⟩ => show win0_3.index (point (i 0)) 0 * 1 ≤ (i 0 : Nat) ∧ (i 0 : Nat) < win0_3.index (point (i 0)) 0 * 1 + 1
              rw [h0]; show (i 0 : Nat) * 1 ≤ (i 0 : Nat) ∧ _ < (i 0 : Nat) * 1 + 1; omega
  | ⟨1, _⟩ => show win0_3.index (point (i 0)) 1 * 1 ≤ (i 1 : Nat) ∧ (i 1 : Nat) < win0_3.index (point (i 0)) 1 * 1 + 1
              rw [h1]; omega
  | ⟨2, _⟩ => show win0_3.index (point (i 0)) 2 * 512 ≤ (i 2 : Nat) ∧ (i 2 : Nat) < win0_3.index (point (i 0)) 2 * 512 + 512
              rw [h2]; omega

/-- So the array ends holding those rows. -/
theorem final_rows (c : Dev nD) : (dats m 0 c).arrAt 3 cfg0.N = rows m c :=
  (dats m 0 c).arrAt_eq_of_cover 3 (rows m c) (fun t _ => flushed_eq m c t) cover

/-- The result buffer: the rows without the unit axis. -/
abbrev result (c : Dev nD) : Buf (Elt F) ((c : Thread nD τ).loc main_v1) :=
  shapeCast S8x512 (rows m c) shapeCasts_S8x1x512_S8x512

/-- The host operation after the pipeline leaves that in the result buffer. -/
theorem tail_eq (c : Dev nD) :
    Pipeline.afterTail₀ cfgs (dats m) 0 (V0 m) [hostOps1] c main_v1 = result m c := by
  unfold Pipeline.afterTail₀
  have h : Pipeline.withArrays spec0 c (V0 m c) (fun w => (dats m 0 c).arrAt w cfg0.N) (Proc.devRef .tc main_v0)
      = rows m c :=
    (Pipeline.withArrays_arr spec0 launch0.win.arr_inj c (V0 m c) (fun w => (dats m 0 c).arrAt w cfg0.N) 3).trans
      (final_rows m c)
  have g : ∀ V : Valuation τ sig (Elt F), StableHlo.after (List.flatten [hostOps1]) V (Proc.devRef .tc main_v1)
      = shapeCast S8x512 (V (Proc.devRef .tc main_v0)) shapeCasts_S8x1x512_S8x512 := by
    intro V
    show StableHlo.after hostOps1 V _ = _
    after_results_simp
    rfl
  exact (g _).trans (congrArg (fun v => shapeCast S8x512 v shapeCasts_S8x1x512_S8x512) h)

/-- The result at batch `b` and token `l`. -/
theorem result_apply (c : Dev nD) (b : Fin 8) (l : Fin 512) :
    result m c (ix2 b l : S8x512.Idx) = entry m c b l := by
  have h : ∀ v : IVec S8x1x512 32, shapeCast S8x512 v shapeCasts_S8x1x512_S8x512 (ix2 b l) = v (ix3 b 0 l) := by
    intro v
    pointwise
  exact h _

/-- The run: the result buffer ends at `result`, the arguments unchanged. -/
theorem run : θ_run defs (onTc (τ := τ) (main (F := F))) ⟨m, fun _ => 0, ρ⟩ fun r => ∀ c : Dev nD,
    r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun _ h c => ⟨((h c).2 main_v1 (by decide)).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩)
    (run_main m ρ)

end Cert.Proof.KernelRun

end
-- ==== Proof.Equal.lean ====
/-
  The two results agree. At each batch and token both programs return a position that leads the same 8192 distances, and
  such a position is unique.
-/
module

public import proofs.«01_k».proof.Proof.RefValue
public import proofs.«01_k».proof.Proof.BlockValue
public import proofs.«01_k».proof.Proof.KernelRun

@[expose] public section

noncomputable section

namespace Cert.Proof

open Idealize.ShloMosaic Idealize.ShloMosaic.TcCoe Idealize.SL.Sem
open Cert.KernelIdeal

variable (m : (ℓ : Loc nD τ sig) → Buf (Elt Ideal) ℓ)

/-- The distances that grid point `b` computes for its token `l` are the reference's for batch `b` and token `l`: the
    blocks are the arguments' parts, and the products of the projection commute. -/
theorem dist_agree (c : Dev nD) (b : Fin 8) (l : Fin 512) :
    Block.D (Gen.iblk m c 0 (KernelRun.point b)) (Gen.iblk m c 1 (KernelRun.point b))
        (Gen.iblk m c 2 (KernelRun.point b)) l
      = Ref.D (m ((c : Thread nD τ).loc main_arg0)) (m ((c : Thread nD τ).loc main_arg1))
          (m ((c : Thread nD τ).loc main_arg2)) b l := by
  funext k
  unfold Block.D Ref.D
  refine congrArg₂ dist (congrArg unit (funext fun e => KernelRun.block_z m c _ k e)) (congrArg unit (funext fun e =>
    Finset.sum_congr rfl fun i _ => ?_))
  exact (congrArg₂ (fun a b : EReal => a * b) (KernelRun.block_p m c _ i e) (KernelRun.block_x m c b l i)).trans
    (mul_comm _ _)

/-- The kernel's result is the reference's result of the same arguments. -/
theorem result_agree (c : Dev nD) :
    KernelRun.result m c
      = Ref.out (F := Ideal) (m ((c : Thread nD τ).loc main_arg0)) (m ((c : Thread nD τ).loc main_arg1))
          (m ((c : Thread nD τ).loc main_arg2)) := by
  have h : ∀ (b : Fin 8) (l : Fin 512), KernelRun.result m c (ix2 b l : S8x512.Idx)
      = Ref.out (F := Ideal) (m ((c : Thread nD τ).loc main_arg0)) (m ((c : Thread nD τ).loc main_arg1))
          (m ((c : Thread nD τ).loc main_arg2)) (ix2 b l) := by
    intro b l
    rw [KernelRun.result_apply]
    obtain ⟨v, hv⟩ := Block.out_leads (Gen.iblk m c 0 (KernelRun.point b)) (Gen.iblk m c 1 (KernelRun.point b))
      (Gen.iblk m c 2 (KernelRun.point b)) l
    obtain ⟨w, hw⟩ := Ref.out_leads (m ((c : Thread nD τ).loc main_arg0)) (m ((c : Thread nD τ).loc main_arg1))
      (m ((c : Thread nD τ).loc main_arg2)) b l
    rw [dist_agree] at hv
    exact leads_unique hv hw
  refine funext fun i : S8x512.Idx => ?_
  have hi : i = ix2 (i 0 : Fin 8) (i 1 : Fin 512) := funext fun a => match a with
    | ⟨0, _⟩ => rfl
    | ⟨1, _⟩ => rfl
  rw [hi]
  exact h (i 0) (i 1)

/-- The idealized kernel computes the reference's function: run from the same arguments, both end with the same positions
    in their result buffers and leave the arguments unchanged. -/
theorem algebraic : Cert.algebraic_KernelIdeal_ReferenceIdeal := by
  intro m g m' g' _ hagree
  refine ⟨fun c => KernelRun.result m c, KernelRun.run m g, ?_⟩
  refine (θ_run Cert.ReferenceIdeal.defs _ _).mono (fun r h c => ⟨?_, (h c).2⟩) (Ref.run (F := Ideal) m' g')
  refine (h c).1.trans ?_
  rw [(hagree c).1, (hagree c).2.1, (hagree c).2.2]
  exact (result_agree m c).symm

end Cert.Proof

end
-- ==== Proof.lean ====
/-
  The five claims: each program's frame, that idealizing the kernel replaced no operation, and that the idealized kernel
  computes the reference's function.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.RefRun
public import proofs.«01_k».proof.Proof.Equal
public import Idealize.ShloMosaic.Adequacy
public import Idealize.ShloMosaic.Init

@[expose] public section

noncomputable section

namespace Cert.Proof

open Idealize.ShloMosaic Idealize.SL.Sem

/-- The kernel, its idealization and the reference run to the end, change no argument and leave every semaphore counter at
    zero; the idealization replaced nothing; and it computes the reference's function. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, Cert.Proof.Ref.frame, trivial,
  Cert.Proof.algebraic⟩

end Cert.Proof

end
